-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S59x1024x1280 : Shape := ⟨3, ![59, 1024, 1280]⟩
abbrev S59x1024x10 : Shape := ⟨3, ![59, 1024, 10]⟩
abbrev S59x1x1280 : Shape := ⟨3, ![59, 1, 1280]⟩
abbrev S1x1024x1280 : Shape := ⟨3, ![1, 1024, 1280]⟩
abbrev S1x1024x10 : Shape := ⟨3, ![1, 1024, 10]⟩
abbrev S1x1x1280 : Shape := ⟨3, ![1, 1, 1280]⟩
abbrev S1024x1280 : Shape := ⟨2, ![1024, 1280]⟩
abbrev S8x128 : Shape := ⟨2, ![8, 128]⟩
abbrev S1x32x10 : Shape := ⟨3, ![1, 32, 10]⟩
abbrev S32x10 : Shape := ⟨2, ![32, 10]⟩
abbrev S1x32x128 : Shape := ⟨3, ![1, 32, 128]⟩
abbrev S32x128 : Shape := ⟨2, ![32, 128]⟩
abbrev S32x1 : Shape := ⟨2, ![32, 1]⟩
abbrev S4x8x128 : Shape := ⟨3, ![4, 8, 128]⟩
abbrev S128 : Shape := ⟨1, ![128]⟩
abbrev S1x128 : Shape := ⟨2, ![1, 128]⟩
abbrev S1x1x128 : Shape := ⟨3, ![1, 1, 128]⟩
abbrev S1x8x128 : Shape := ⟨3, ![1, 8, 128]⟩
abbrev S59x1280 : Shape := ⟨2, ![59, 1280]⟩

abbrev nBuf : Space → Nat
  | .hbm => 5
  | .vmem => 9
  | .smem => 0
  | _ => 0

abbrev bufTy : (tb : Table) → Fin (tcTables nBuf tb) → BufTy
  | .hbm, ⟨0, _⟩ => ⟨S59x1024x1280, .fp8e4m3⟩
  | .hbm, ⟨1, _⟩ => ⟨S59x1024x10, .f32⟩
  | .hbm, ⟨2, _⟩ => ⟨S59x1024x1280, .i8⟩
  | .hbm, ⟨3, _⟩ => ⟨S59x1x1280, .f32⟩
  | .hbm, ⟨4, _⟩ => ⟨S59x1280, .f32⟩
  | .local _ .vmem, ⟨0, _⟩ => ⟨S1x1024x1280, .fp8e4m3⟩
  | .local _ .vmem, ⟨1, _⟩ => ⟨S1x1024x1280, .fp8e4m3⟩
  | .local _ .vmem, ⟨2, _⟩ => ⟨S1x1024x10, .f32⟩
  | .local _ .vmem, ⟨3, _⟩ => ⟨S1x1024x10, .f32⟩
  | .local _ .vmem, ⟨4, _⟩ => ⟨S1x1024x1280, .i8⟩
  | .local _ .vmem, ⟨5, _⟩ => ⟨S1x1024x1280, .i8⟩
  | .local _ .vmem, ⟨6, _⟩ => ⟨S1x1x1280, .f32⟩
  | .local _ .vmem, ⟨7, _⟩ => ⟨S1x1x1280, .f32⟩
  | .local _ .vmem, ⟨8, _⟩ => ⟨S1024x1280, .f32⟩
  | _, _ => ⟨S59x1024x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![59], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  v154
def k0_off1 (k0_t1 : Fin k0_t1_loop.trips) : Fin 3 → Nat :=
  let c0_76 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v156 : Index := Scalar.indexCast v155
  let c0_77 : Index := 0#32
  ![0, v156.toNat, 0]
def k0_off2 (k0_t1 : Fin k0_t1_loop.trips) : Fin 3 → Nat :=
  let c0_78 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v159 : Index := Scalar.indexCast v155
  let c0_79 : Index := 0#32
  ![0, v159.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v166 : Index := Scalar.indexCast v155
  let c0_80 : Index := 0#32
  ![v166.toNat, 0]
def k0_off4 (k0_t1 : Fin k0_t1_loop.trips) : Fin 3 → Nat :=
  let c0_82 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v174 : Index := Scalar.indexCast v155
  let c128_83 : Index := 128#32
  ![0, v174.toNat, 128]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v181 : Index := Scalar.indexCast v155
  let c128_84 : Index := 128#32
  ![v181.toNat, 128]
def k0_off6 (k0_t1 : Fin k0_t1_loop.trips) : Fin 3 → Nat :=
  let c0_86 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v189 : Index := Scalar.indexCast v155
  let c256_87 : Index := 256#32
  ![0, v189.toNat, 256]
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v196 : Index := Scalar.indexCast v155
  let c256_88 : Index := 256#32
  ![v196.toNat, 256]
def k0_off8 (k0_t1 : Fin k0_t1_loop.trips) : Fin 3 → Nat :=
  let c0_90 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v204 : Index := Scalar.indexCast v155
  let c384_91 : Index := 384#32
  ![0, v204.toNat, 384]
def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v211 : Index := Scalar.indexCast v155
  let c384_92 : Index := 384#32
  ![v211.toNat, 384]
def k0_off10 (k0_t1 : Fin k0_t1_loop.trips) : Fin 3 → Nat :=
  let c0_94 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v219 : Index := Scalar.indexCast v155
  let c512_95 : Index := 512#32
  ![0, v219.toNat, 512]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v226 : Index := Scalar.indexCast v155
  let c512_96 : Index := 512#32
  ![v226.toNat, 512]
def k0_off12 (k0_t1 : Fin k0_t1_loop.trips) : Fin 3 → Nat :=
  let c0_98 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v234 : Index := Scalar.indexCast v155
  let c640_99 : Index := 640#32
  ![0, v234.toNat, 640]
def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v241 : Index := Scalar.indexCast v155
  let c640_100 : Index := 640#32
  ![v241.toNat, 640]
def k0_off14 (k0_t1 : Fin k0_t1_loop.trips) : Fin 3 → Nat :=
  let c0_102 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v249 : Index := Scalar.indexCast v155
  let c768_103 : Index := 768#32
  ![0, v249.toNat, 768]
def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v256 : Index := Scalar.indexCast v155
  let c768_104 : Index := 768#32
  ![v256.toNat, 768]
def k0_off16 (k0_t1 : Fin k0_t1_loop.trips) : Fin 3 → Nat :=
  let c0_106 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v264 : Index := Scalar.indexCast v155
  let c896_107 : Index := 896#32
  ![0, v264.toNat, 896]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v271 : Index := Scalar.indexCast v155
  let c896_108 : Index := 896#32
  ![v271.toNat, 896]
def k0_off18 (k0_t1 : Fin k0_t1_loop.trips) : Fin 3 → Nat :=
  let c0_110 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v279 : Index := Scalar.indexCast v155
  let c1024_111 : Index := 1024#32
  ![0, v279.toNat, 1024]
def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v286 : Index := Scalar.indexCast v155
  let c1024_112 : Index := 1024#32
  ![v286.toNat, 1024]
def k0_off20 (k0_t1 : Fin k0_t1_loop.trips) : Fin 3 → Nat :=
  let c0_114 : Index := 0#32
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v294 : Index := Scalar.indexCast v155
  let c1152_115 : Index := 1152#32
  ![0, v294.toNat, 1152]
def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32_75 : BitVec 32 := 32#32
  let v154 : BitVec 32 := Scalar.muli arg6 c32_i32_75
  let v155 : BitVec 32 := v154
  let v301 : Index := Scalar.indexCast v155
  let c1152_116 : Index := 1152#32
  ![v301.toNat, 1152]
@[reducible] def k0_t2_loop : Scf.Loop 32 :=
  let c0_i32_71 : BitVec 32 := 0#32
  let c32_i32_72 : BitVec 32 := 32#32
  let v153 : BitVec 32 := Scalar.addi c0_i32_71 c32_i32_72
  let c1_i32_73 : BitVec 32 := 1#32
  ⟨c0_i32_71, v153, c1_i32_73⟩
def k0_mult2 (k0_t2 : Fin k0_t2_loop.trips) : BitVec 32 :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  v154
def k0_off22 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v156 : Index := Scalar.indexCast v155
  let c0_76 : Index := 0#32
  ![v156.toNat, 0]
def k0_off23 (k0_t2 : Fin k0_t2_loop.trips) : Fin 3 → Nat :=
  let c0_79 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v169 : Index := Scalar.indexCast v155
  let c0_80 : Index := 0#32
  ![0, v169.toNat, 0]
def k0_off24 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v173 : Index := Scalar.indexCast v155
  let c128_81 : Index := 128#32
  ![v173.toNat, 128]
def k0_off25 (k0_t2 : Fin k0_t2_loop.trips) : Fin 3 → Nat :=
  let c0_84 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v186 : Index := Scalar.indexCast v155
  let c128_85 : Index := 128#32
  ![0, v186.toNat, 128]
def k0_off26 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v190 : Index := Scalar.indexCast v155
  let c256_86 : Index := 256#32
  ![v190.toNat, 256]
def k0_off27 (k0_t2 : Fin k0_t2_loop.trips) : Fin 3 → Nat :=
  let c0_89 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v203 : Index := Scalar.indexCast v155
  let c256_90 : Index := 256#32
  ![0, v203.toNat, 256]
def k0_off28 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v207 : Index := Scalar.indexCast v155
  let c384_91 : Index := 384#32
  ![v207.toNat, 384]
def k0_off29 (k0_t2 : Fin k0_t2_loop.trips) : Fin 3 → Nat :=
  let c0_94 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v220 : Index := Scalar.indexCast v155
  let c384_95 : Index := 384#32
  ![0, v220.toNat, 384]
def k0_off30 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v224 : Index := Scalar.indexCast v155
  let c512_96 : Index := 512#32
  ![v224.toNat, 512]
def k0_off31 (k0_t2 : Fin k0_t2_loop.trips) : Fin 3 → Nat :=
  let c0_99 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v237 : Index := Scalar.indexCast v155
  let c512_100 : Index := 512#32
  ![0, v237.toNat, 512]
def k0_off32 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v241 : Index := Scalar.indexCast v155
  let c640_101 : Index := 640#32
  ![v241.toNat, 640]
def k0_off33 (k0_t2 : Fin k0_t2_loop.trips) : Fin 3 → Nat :=
  let c0_104 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v254 : Index := Scalar.indexCast v155
  let c640_105 : Index := 640#32
  ![0, v254.toNat, 640]
def k0_off34 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v258 : Index := Scalar.indexCast v155
  let c768_106 : Index := 768#32
  ![v258.toNat, 768]
def k0_off35 (k0_t2 : Fin k0_t2_loop.trips) : Fin 3 → Nat :=
  let c0_109 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v271 : Index := Scalar.indexCast v155
  let c768_110 : Index := 768#32
  ![0, v271.toNat, 768]
def k0_off36 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v275 : Index := Scalar.indexCast v155
  let c896_111 : Index := 896#32
  ![v275.toNat, 896]
def k0_off37 (k0_t2 : Fin k0_t2_loop.trips) : Fin 3 → Nat :=
  let c0_114 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v288 : Index := Scalar.indexCast v155
  let c896_115 : Index := 896#32
  ![0, v288.toNat, 896]
def k0_off38 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v292 : Index := Scalar.indexCast v155
  let c1024_116 : Index := 1024#32
  ![v292.toNat, 1024]
def k0_off39 (k0_t2 : Fin k0_t2_loop.trips) : Fin 3 → Nat :=
  let c0_119 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v305 : Index := Scalar.indexCast v155
  let c1024_120 : Index := 1024#32
  ![0, v305.toNat, 1024]
def k0_off40 (k0_t2 : Fin k0_t2_loop.trips) : Fin 2 → Nat :=
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v309 : Index := Scalar.indexCast v155
  let c1152_121 : Index := 1152#32
  ![v309.toNat, 1152]
def k0_off41 (k0_t2 : Fin k0_t2_loop.trips) : Fin 3 → Nat :=
  let c0_124 : Index := 0#32
  let c0_i32_71 : BitVec 32 := 0#32
  let c1_i32_73 : BitVec 32 := 1#32
  let arg6 : BitVec 32 := Scf.iv c0_i32_71 c1_i32_73 k0_t2
  let c32_i32_75 : BitVec 32 := 32#32
  let v154 : BitVec 32 := Scalar.muli arg6 c32_i32_75
  let v155 : BitVec 32 := v154
  let v322 : Index := Scalar.indexCast v155
  let c1152_125 : Index := 1152#32
  ![0, v322.toNat, 1152]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S59x1024x1280 : Shape := ⟨3, ![59, 1024, 1280]⟩
abbrev S59x1024x10 : Shape := ⟨3, ![59, 1024, 10]⟩
abbrev S59x1280 : Shape := ⟨2, ![59, 1280]⟩
abbrev S59x1024x128 : Shape := ⟨3, ![59, 1024, 128]⟩
abbrev S59x1024x1 : Shape := ⟨3, ![59, 1024, 1]⟩
abbrev S59x1x1280 : Shape := ⟨3, ![59, 1, 1280]⟩

abbrev nBuf : Space → Nat
  | .hbm => 4
  | .vmem => 4
  | .smem => 0
  | _ => 0

abbrev bufTy : (tb : Table) → Fin (tcTables nBuf tb) → BufTy
  | .hbm, ⟨0, _⟩ => ⟨S59x1024x1280, .fp8e4m3⟩
  | .hbm, ⟨1, _⟩ => ⟨S59x1024x10, .f32⟩
  | .hbm, ⟨2, _⟩ => ⟨S59x1024x1280, .i8⟩
  | .hbm, ⟨3, _⟩ => ⟨S59x1280, .f32⟩
  | .local _ .vmem, ⟨0, _⟩ => ⟨S59x1024x1280, .fp8e4m3⟩
  | .local _ .vmem, ⟨1, _⟩ => ⟨S59x1024x10, .f32⟩
  | .local _ .vmem, ⟨2, _⟩ => ⟨S59x1024x1280, .i8⟩
  | .local _ .vmem, ⟨3, _⟩ => ⟨S59x1280, .f32⟩
  | _, _ => ⟨S59x1024x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S59x1024x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S59x1024x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S59x1024x1280 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S59x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BitsBody.lean ====
/-
  The kernel's body at any reading of the floats: run on whole buffers, it ends with the inputs' unchanged and the
  outputs' at contents that depend on the inputs alone. The scratch buffer is overwritten whole before it is read, so
  what it held before has no part in them.
-/
module

public import proofs.«01_k».proof.Proof.Gen.Kernel.Frame.Runs
public import Idealize.ShloMosaic.Lib.Pipeline.ReadBack

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- After the first loop the scratch buffer is what that loop stored, whatever it held before. -/
theorem scratch_eq (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole) (X1 : BufTy.Contents (Elt F) arg1.view.ty) (X2 : BufTy.Contents (Elt F) arg2.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (f : BufTy.Contents (Elt F) arg5.view.ty) :
    arg5.view.writes (Elt F) f (st_k0_t1 (F := F) Variants.none c none i arg1 harg1 arg2 harg2 arg3 harg3 arg4 harg4 arg5 harg5 X1 X2 init (Scf.trips k0_t1_loop.lb k0_t1_loop.ub k0_t1_loop.st)).2 = harg5.unread (View.canon (st_k0_t1 (F := F) Variants.none c none i arg1 harg1 arg2 harg2 arg3 harg3 arg4 harg4 arg5 harg5 X1 X2 init (Scf.trips k0_t1_loop.lb k0_t1_loop.ub k0_t1_loop.st)).2) :=
  harg5.eq_unread (View.read_writes_eq_canon _ _ _
    (View.cover_of_tiledL (st_k0_t1 (F := F) Variants.none c none i arg1 harg1 arg2 harg2 arg3 harg3 arg4 harg4 arg5 harg5 X1 X2 init (Scf.trips k0_t1_loop.lb k0_t1_loop.ub k0_t1_loop.st)).2 S32x128.size (by sl_kernel_rfl)))

/-- After the second loop the codes' buffer is what that loop stored, computed from what the first loop stored. -/
theorem codes_eq (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole) (X1 : BufTy.Contents (Elt F) arg1.view.ty) (X2 : BufTy.Contents (Elt F) arg2.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (v17 : FVec F S8x128 .f32) (v32 : FVec F S8x128 .f32) (v47 : FVec F S8x128 .f32) (v62 : FVec F S8x128 .f32) (v77 : FVec F S8x128 .f32) (v92 : FVec F S8x128 .f32) (v107 : FVec F S8x128 .f32) (v122 : FVec F S8x128 .f32) (v137 : FVec F S8x128 .f32) (v145 : FVec F S1x128 .f32)
    (f : BufTy.Contents (Elt F) arg5.view.ty) (g : BufTy.Contents (Elt F) arg3.view.ty) :
    View.read (Elt F) arg3.view (arg3.view.writes (Elt F) g (pb_k0_t2 (F := F) Variants.none c none i arg1 harg1 arg2 harg2 arg3 harg3 arg4 harg4 arg5 harg5 v17 v32 v47 v62 v77 v92 v107 v122 v137 v145 (arg5.view.writes (Elt F) f (st_k0_t1 (F := F) Variants.none c none i arg1 harg1 arg2 harg2 arg3 harg3 arg4 harg4 arg5 harg5 X1 X2 init (Scf.trips k0_t1_loop.lb k0_t1_loop.ub k0_t1_loop.st)).2) (Scf.trips k0_t2_loop.lb k0_t2_loop.ub k0_t2_loop.st)))
      = View.canon (pb_k0_t2 (F := F) Variants.none c none i arg1 harg1 arg2 harg2 arg3 harg3 arg4 harg4 arg5 harg5 v17 v32 v47 v62 v77 v92 v107 v122 v137 v145 (harg5.unread (View.canon (st_k0_t1 (F := F) Variants.none c none i arg1 harg1 arg2 harg2 arg3 harg3 arg4 harg4 arg5 harg5 X1 X2 init (Scf.trips k0_t1_loop.lb k0_t1_loop.ub k0_t1_loop.st)).2)) (Scf.trips k0_t2_loop.lb k0_t2_loop.ub k0_t2_loop.st)) := by
  rw [scratch_eq]
  exact View.read_writes_eq_canon _ _ _ (View.cover_of_tiledL _ S1x32x128.size (by sl_kernel_rfl))

/-- The body's run: there are contents `Q` and `S`, depending on the inputs alone, in which it leaves the outputs'
    buffers. -/
theorem body_run (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole)
    (x0 : Vec F S1x1024x1280 .fp8e4m3) (x1 : Vec F S1x1024x10 .f32) :
    ∃ (Q : Vec F S1x1024x1280 .i8) (S : Vec F S1x1x1280 .f32), ∀ (E : Set ℕ) (K : PUnit → sProp 𝕄),
      iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
          ∗ (iprop(owns (c : Thread nD τ) arg1 fullShare x0 ∗ owns (c : Thread nD τ) arg2 fullShare x1 ∗ owns (c : Thread nD τ) arg3 fullShare Q ∗ owns (c : Thread nD τ) arg4 fullShare S ∗ (∃ d, owns (c : Thread nD τ) arg5 fullShare d)) -∗ K ⟨⟩))
        ⊢ wp frame (wpE (defs₀ (F := F)) Variants.none c none) E (cc0_fp8_to_int8_requant i arg1 harg1 arg2 harg2 arg3 harg3 arg4 harg4 arg5 harg5) K := by
  refine ⟨?_, ?_, fun E K => ?run⟩
  case run =>
    simp only [cc0_fp8_to_int8_requant_eq_skeleton]; unfold cc0_fp8_to_int8_requant_skel
    simp only [k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap
      · iexact H2
      ipureintro
      sl_unfold_words
      exact codes_eq c i arg1 harg1 arg2 harg2 arg3 harg3 arg4 harg4 arg5 harg5 _ _ _ _ _ _ _ _ _ _ _ _ _ fs0 f2
    isplitl [H3]
    · iexists _; isplitr
      swap
      · iexact H3
      ipureintro
      sl_unfold_words
      rfl
    iexists _, _; isplitr; swap; · iexact HS0
    ipureintro; rfl

end Cert.Kernel.Body

end
-- ==== Proof.BitsFrame.lean ====
/-
  The kernel's run and frame at any reading of the floats, from the body's run.
-/
module

public import proofs.«01_k».proof.Proof.BitsBody
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the body leaves in the codes' buffer at point `t`. -/
def outQ (c : Dev nD) (t : Fin cfg0.N) : Vec F S1x1024x1280 .i8 := (body_run c (grid0.coords t) (ms0_0 t) (hs0_0 t) (ms0_1 t) (hs0_1 t) (ms0_2 t) (hs0_2 t) (ms0_3 t) (hs0_3 t) scM0_0 (Memref.isWhole_whole _) (iblk m c 0 t) (iblk m c 1 t)).choose

/-- What it leaves in the scales' buffer. -/
def outS (c : Dev nD) (t : Fin cfg0.N) : Vec F S1x1x1280 .f32 := (body_run c (grid0.coords t) (ms0_0 t) (hs0_0 t) (ms0_1 t) (hs0_1 t) (ms0_2 t) (hs0_2 t) (ms0_3 t) (hs0_3 t) scM0_0 (Memref.isWhole_whole _) (iblk m c 0 t) (iblk m c 1 t)).choose_spec.choose

/-- The body at point `t` leaves the outputs' buffers at `outQ` and `outS`. -/
theorem out_spec (c : Dev nD) (t : Fin cfg0.N) (E : Set ℕ) (K : PUnit → sProp 𝕄) :
    iprop(owns (c : Thread nD τ) (ms0_0 t) fullShare (iblk m c 0 t) ∗ owns (c : Thread nD τ) (ms0_1 t) fullShare (iblk m c 1 t) ∗ (∃ d, owns (c : Thread nD τ) (ms0_2 t) fullShare d) ∗ (∃ d, owns (c : Thread nD τ) (ms0_3 t) fullShare d) ∗ (∃ d, owns (c : Thread nD τ) scM0_0 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (outQ m c t) ∗ owns (c : Thread nD τ) (ms0_3 t) fullShare (outS m c t) ∗ (∃ d, owns (c : Thread nD τ) scM0_0 fullShare d)) -∗ K ⟨⟩))
      ⊢ wp frame (wpE (defs₀ (F := F)) Variants.none c none) E (cc0_fp8_to_int8_requant (grid0.coords t) (ms0_0 t) (hs0_0 t) (ms0_1 t) (hs0_1 t) (ms0_2 t) (hs0_2 t) (ms0_3 t) (hs0_3 t) scM0_0 (Memref.isWhole_whole _)) K :=
  (body_run c (grid0.coords t) (ms0_0 t) (hs0_0 t) (ms0_1 t) (hs0_1 t) (ms0_2 t) (hs0_2 t) (ms0_3 t) (hs0_3 t) scM0_0 (Memref.isWhole_whole _) (iblk m c 0 t) (iblk m c 1 t)).choose_spec.choose_spec E K

/-! ## The pipeline's proof data -/

/-- The proof data of the one pipeline on core `c`: the arrays as the region finds them (`V`); after the body at
    point `t` each input's buffer at its block and the outputs' at `outQ` and `outS`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outQ m c t
    | ⟨3, _⟩ => outS m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outQ m c t := by dsimp only [dats]
theorem after0_3 (c : Dev nD) (t : Fin cfg0.N) : (dats m 0 c).after 3 t = outS m c t := by dsimp only [dats]

/-- Each input's current staging buffer holds its block at every point, fetched there or not (`before0_0_of`, `before0_1_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply (out_spec m c t Set.univ _)
  isplitl [H0]; · iexact H0
  isplitl [H1]; · iexact H1
  isplitl [H2]; · iexists _; iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run (defs (F := F)) (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, from any memory with zero counters: every weakly fair execution of @main on the
    TensorCores terminates, and every final state has every array of the pipeline at what the library computes from the
    proof data and every other unscoped buffer as the lines after the region leave it (Lib/Pipeline/Frame.lean `FramePost`). -/
theorem run_main : θ_run (defs (F := F)) (onTc (τ := τ) (main (F := F))) (s₀ m ρ) (Pipeline.FramePost cfgs (dats m) 0 (Pipeline.afterTail₀ cfgs (dats m) 0 (V0 m) [hostOps1])) :=
  (θ_run (defs (F := F)) _ _).mono (fun _ h => h.1) (run_main_quiescent m ρ)

/-- `frame` without the counters: the argument arrays end unchanged. -/
theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run (defs (F := F)) _ _).mono (fun _ h => h.2) (run_main_quiescent m ρ))

end Cert.Kernel.Body

end
-- ==== Proof.Spec.lean ====
/-
  What the program computes, for one batch, as plain functions of a row number and a column number: the dequantized
  matrix, the largest absolute value of a column, the column's new scale and the requantized entry. Both programs are
  read against these functions.
-/
module

public import Idealize.ShloMosaic.PureOps.Ideal
public import Idealize.ShloMosaic.Lib.Pointwise

@[expose] public section

noncomputable section

namespace Cert.Spec

open Idealize.ShloMosaic

/-- The group of 128 columns that column `j` lies in. -/
def grp (j : Fin 1280) : Fin 10 := ⟨j.val / 128, by omega⟩

/-- Entry `(r, j)` of the dequantized matrix: the code times the scale of its row and column group. -/
def X (C : Fin 1024 → Fin 1280 → EReal) (S : Fin 1024 → Fin 10 → EReal) (r : Fin 1024) (j : Fin 1280) : EReal :=
  C r j * S r (grp j)

/-- The largest absolute value of a column. -/
def amax (x : Fin 1024 → EReal) : EReal :=
  (Finset.univ : Finset (Fin 1024)).fold max (FloatOps.ofBits (F := Ideal) .f32 0xFF800000#32) fun r => max (x r) (-(x r))

/-- A column's new scale from its largest absolute value `a`: one if `a` is zero, else `a / 127`. -/
def scaleOf (a : Ideal .f32) : Ideal .f32 :=
  Scalar.select (FloatOps.cmpf (F := Ideal) .oeq a (FloatOps.ofBits .f32 0x00000000#32)) (FloatOps.ofBits .f32 0x3F800000#32)
    (FloatOps.divf a (FloatOps.ofBits .f32 0x42FE0000#32))

/-- Rounding to the nearest integer, then cutting to the range from −127 to 127, as an 8-bit integer. -/
def cut (q : Ideal .f32) : BitVec 8 :=
  FloatOps.fptosi (F := Ideal) 8 (FloatOps.minimumf (FloatOps.ofBits .f32 0x42FE0000#32)
    (FloatOps.maximumf (FloatOps.ofBits .f32 0xC2FE0000#32) (FloatOps.roundeven q)))

/-- The new scale of column `j`. -/
def SC (C : Fin 1024 → Fin 1280 → EReal) (S : Fin 1024 → Fin 10 → EReal) (j : Fin 1280) : Ideal .f32 :=
  scaleOf (amax fun r => X C S r j)

/-- The requantized entry `(r, j)`. -/
def Q (C : Fin 1024 → Fin 1280 → EReal) (S : Fin 1024 → Fin 10 → EReal) (r : Fin 1024) (j : Fin 1280) : BitVec 8 :=
  cut (FloatOps.divf (F := Ideal) (φ := .f32) (X C S r j) (SC C S j))

/-! ## All batches -/

/-- The codes of batch `b`. -/
def codes (a0 : (⟨3, ![59, 1024, 1280]⟩ : Shape).Idx → EReal) (b : Fin 59) (r : Fin 1024) (j : Fin 1280) : EReal := a0 (ix3 b r j)

/-- The scales of batch `b`. -/
def scales (a1 : (⟨3, ![59, 1024, 10]⟩ : Shape).Idx → EReal) (b : Fin 59) (r : Fin 1024) (g : Fin 10) : EReal := a1 (ix3 b r g)

/-- The array of the requantized codes. -/
def outQ (a0 : (⟨3, ![59, 1024, 1280]⟩ : Shape).Idx → EReal) (a1 : (⟨3, ![59, 1024, 10]⟩ : Shape).Idx → EReal) :
    (⟨3, ![59, 1024, 1280]⟩ : Shape).Idx → BitVec 8 :=
  fun y => Q (codes a0 (y 0)) (scales a1 (y 0)) (y 1) (y 2)

/-- The array of the new scales. -/
def outS (a0 : (⟨3, ![59, 1024, 1280]⟩ : Shape).Idx → EReal) (a1 : (⟨3, ![59, 1024, 10]⟩ : Shape).Idx → EReal) :
    (⟨2, ![59, 1280]⟩ : Shape).Idx → EReal :=
  fun y => SC (codes a0 (y 0)) (scales a1 (y 0)) (y 1)

/-! ## The constants -/

theorem bits_zero : (FloatOps.ofBits (F := Ideal) .f32 0x00000000#32 : EReal) = 0 := by
  simp [Ideal.ofBits_def, Ideal.ieee]

theorem bits_one : (FloatOps.ofBits (F := Ideal) .f32 0x3F800000#32 : EReal) = 1 := by
  simp [Ideal.ofBits_def, Ideal.ieee]

theorem bits_127 : (FloatOps.ofBits (F := Ideal) .f32 0x42FE0000#32 : EReal) = ((127 : ℝ) : EReal) := by
  show Ideal.ieee 8 23 0x42FE0000#32 = _
  simp [Ideal.ieee]
  norm_num [← EReal.coe_mul]

theorem bits_bot : (FloatOps.ofBits (F := Ideal) .f32 0xFF800000#32 : EReal) = ⊥ := by
  show Ideal.ieee 8 23 0xFF800000#32 = _
  simp [Ideal.ieee]

/-! ## The maximum -/

/-- A number is an upper bound of `amax` when it is one of every absolute value of the column. -/
theorem amax_le (x : Fin 1024 → EReal) (b : EReal) : amax x ≤ b ↔ ∀ r, max (x r) (-(x r)) ≤ b := by
  unfold amax
  rw [Finset.fold_max_le, bits_bot]
  simp

/-- An absolute value is not negative. -/
theorem abs_nonneg (x : EReal) : 0 ≤ max x (-x) := by
  rcases le_total 0 x with h | h
  · exact le_max_of_le_left h
  · exact le_max_of_le_right (EReal.neg_nonneg.mpr h)

theorem amax_nonneg (x : Fin 1024 → EReal) : 0 ≤ amax x :=
  (abs_nonneg (x 0)).trans ((amax_le x (amax x)).mp le_rfl 0)

/-- A number with the upper bounds of the column's absolute values, zero among them, is `amax`. -/
theorem eq_amax (x : Fin 1024 → EReal) (a : EReal) (h : ∀ b, a ≤ b ↔ 0 ≤ b ∧ ∀ r, max (x r) (-(x r)) ≤ b) : a = amax x := by
  refine eq_of_forall_ge_iff fun b => ?_
  rw [h, amax_le]
  exact ⟨fun h => h.2, fun h => ⟨(abs_nonneg (x 0)).trans (h 0), h⟩⟩

/-! ## Dividing by the scale -/

/-- The scale is never zero. -/
theorem scaleOf_ne_zero (a : EReal) : (scaleOf a : EReal) ≠ 0 := by
  show (if Ideal.cmp .oeq a (FloatOps.ofBits (F := Ideal) .f32 0x00000000#32) = 1#1 then (FloatOps.ofBits (F := Ideal) .f32 0x3F800000#32 : EReal)
    else Ideal.div a (FloatOps.ofBits (F := Ideal) .f32 0x42FE0000#32)) ≠ 0
  rw [bits_zero, bits_one, bits_127]
  by_cases h : a = 0
  · simp [Ideal.cmp, h]
  · have h127 : ((127 : ℝ) : EReal) ≠ 0 := by norm_num
    simp only [Ideal.cmp, h, Ideal.div, h127, decide_false, if_false]
    rw [if_neg (by decide)]
    refine mul_ne_zero h ?_
    rw [← EReal.coe_inv]
    norm_num

/-- So a column's scale is never zero. -/
theorem SC_ne_zero (C : Fin 1024 → Fin 1280 → EReal) (S : Fin 1024 → Fin 10 → EReal) (j : Fin 1280) : (SC C S j : EReal) ≠ 0 :=
  scaleOf_ne_zero _

/-- Multiplying by the reciprocal of a number that is not zero is dividing by it. -/
theorem mulf_recip (x s : Ideal .f32) (hs : (s : EReal) ≠ 0) :
    FloatOps.mulf x (FloatOps.divf (FloatOps.ofBits .f32 0x3F800000#32) s) = FloatOps.divf x s := by
  have h1 : (FloatOps.ofBits (F := Ideal) .f32 0x3F800000#32) = (1 : EReal) := bits_one
  rw [h1]
  simp only [Ideal.mulf_def, Ideal.divf_def, Ideal.div]
  rw [if_neg hs, if_neg hs, one_mul]

end Cert.Spec

end
-- ==== Proof.Payload.lean ====
/-
  The vector expressions that the kernel's body evaluates, each one once with the group's number as a parameter, and
  what each of them holds at an index.
-/
module

public import proofs.«01_k».proof.Proof.Gen.KernelIdeal.Skeleton
public import proofs.«01_k».proof.Proof.Spec

@[expose] public section

noncomputable section

namespace Cert.KernelIdeal.Body

open Cert.KernelIdeal Cert.KernelIdeal.Gen Idealize.ShloMosaic Idealize.ShloMosaic.TcCoe

/-- Thirty-two rows of one group, dequantized: the codes times the column `o 1` of the scales. -/
def xval (o : Fin 2 → ℕ) (hs : S32x10.Slices o S32x1) (s : Vec Ideal S1x32x10 .f32) (c : Vec Ideal S1x32x128 .fp8e4m3) : FVec Ideal S32x128 .f32 :=
  mulf (extf .f32 (shapeCast S32x128 c shapeCasts_S1x32x128_S32x128) bitsLt_fp8e4m3_f32)
    (broadcastTo S32x128 (extractStridedSlice S32x1 o (shapeCast S32x10 s shapeCasts_S1x32x10_S32x10) hs) broadcasts_S32x1_S32x128)

/-- `xval` at row `r` and lane `l`. -/
theorem xval_apply (g : Fin 10) (hs : S32x10.Slices ![0, g.val] S32x1) (s : Vec Ideal S1x32x10 .f32) (c : Vec Ideal S1x32x128 .fp8e4m3)
    (r : Fin 32) (l : Fin 128) : xval ![0, g.val] hs s c (ix2 r l) = (c (ix3 0 r l) * s (ix3 0 r g) : EReal) := by
  pointwise [xval]

/-- One step of a running column maximum over thirty-two more rows. -/
def accStep (a : FVec Ideal S8x128 .f32) (x : FVec Ideal S32x128 .f32) : FVec Ideal S8x128 .f32 :=
  maximumf a (multiReduction .maximumf [0] S8x128 (shapeCast S4x8x128 (absf x) shapeCasts_S32x128_S4x8x128) 0xFF800000#32 reduces_S4x8x128_S8x128 (.inl rfl) rfl)

/-- `accStep` at an index. -/
theorem accStep_apply (a : FVec Ideal S8x128 .f32) (x : FVec Ideal S32x128 .f32) (s : Fin 8) (l : Fin 128) :
    accStep a x (ix2 s l) = max (a (ix2 s l)) ((Finset.univ : Finset (Fin 4)).fold max (FloatOps.ofBits (F := Ideal) .f32 0xFF800000#32)
      fun q => max (x (ix2 ⟨q.val * 8 + s.val, by omega⟩ l) : EReal) (-(x (ix2 ⟨q.val * 8 + s.val, by omega⟩ l) : EReal))) := by
  pointwise [accStep]
  rfl

/-- The upper bounds of `accStep` at an index. -/
theorem accStep_le (a : FVec Ideal S8x128 .f32) (x : FVec Ideal S32x128 .f32) (s : Fin 8) (l : Fin 128) (b : EReal) :
    (accStep a x (ix2 s l) : EReal) ≤ b ↔ (a (ix2 s l) : EReal) ≤ b ∧ ∀ q : Fin 4, max (x (ix2 ⟨q.val * 8 + s.val, by omega⟩ l) : EReal) (-(x (ix2 ⟨q.val * 8 + s.val, by omega⟩ l) : EReal)) ≤ b := by
  rw [accStep_apply, max_le_iff, Finset.fold_max_le, Spec.bits_bot]
  simp only [bot_le, true_and, Finset.mem_univ, forall_const]

/-- The new scales of one group's columns from its eight running maxima. -/
def scl (a : FVec Ideal S8x128 .f32) : FVec Ideal S1x128 .f32 :=
  let v := shapeCast S1x128 (multiReduction .maximumf [0] S128 a 0xFF800000#32 reduces_S8x128_S128 (.inl rfl) rfl) shapeCasts_S128_S1x128
  select (cmpf .oeq v (broadcast S1x128 (Scalar.ofBits .f32 0x00000000#32))) (broadcast S1x128 (Scalar.ofBits .f32 0x3F800000#32))
    (divf v (broadcast S1x128 (Scalar.ofBits .f32 0x42FE0000#32)))

/-- The largest of the eight running maxima of lane `l`. -/
def fold8 (a : FVec Ideal S8x128 .f32) (l : Fin 128) : EReal :=
  (Finset.univ : Finset (Fin 8)).fold max (FloatOps.ofBits (F := Ideal) .f32 0xFF800000#32) fun s => a (ix2 s l)

theorem scl_apply (a : FVec Ideal S8x128 .f32) (l : Fin 128) : scl a (ix2 0 l) = Spec.scaleOf (fold8 a l) := by
  pointwise [scl, Spec.scaleOf, fold8]

/-- The reciprocals of the scales, once per row of eight. -/
def inv (s : FVec Ideal S1x128 .f32) : FVec Ideal S8x128 .f32 :=
  broadcastTo S8x128 (shapeCast S1x128 (divf (broadcast S1x128 (Scalar.ofBits .f32 0x3F800000#32)) s) shapeCasts_S1x128_S1x128) broadcasts_S1x128_S8x128

theorem inv_apply (s : FVec Ideal S1x128 .f32) (r : Fin 8) (l : Fin 128) :
    inv s (ix2 r l) = FloatOps.divf (FloatOps.ofBits .f32 0x3F800000#32) (s (ix2 0 l)) := by
  pointwise [inv]

/-- Thirty-two rows of one group, requantized. -/
def quant (i : FVec Ideal S8x128 .f32) (x : Vec Ideal S32x128 .f32) : IVec S1x32x128 8 :=
  shapeCast S1x32x128 (fptosi 8 (shapeCast S32x128 (minimumf (broadcast S4x8x128 (Scalar.ofBits (F := Ideal) .f32 0x42FE0000#32))
    (maximumf (broadcast S4x8x128 (Scalar.ofBits .f32 0xC2FE0000#32)) (roundeven
      (mulf (shapeCast S4x8x128 x shapeCasts_S32x128_S4x8x128)
        (broadcastTo S4x8x128 (shapeCast S1x8x128 i shapeCasts_S8x128_S1x8x128) broadcasts_S1x8x128_S4x8x128)))))
    shapeCasts_S4x8x128_S32x128)) shapeCasts_S32x128_S1x32x128

theorem quant_apply (i : FVec Ideal S8x128 .f32) (x : Vec Ideal S32x128 .f32) (r : Fin 32) (l : Fin 128) :
    quant i x (ix3 0 r l) = Spec.cut (FloatOps.mulf (x (ix2 r l)) (i (ix2 ⟨r.val % 8, by omega⟩ l))) := by
  pointwise [quant, Spec.cut]

end Cert.KernelIdeal.Body

end
-- ==== Proof.Dequant.lean ====
/-
  The kernel's first loop: thirty-two trips of thirty-two rows each. Every trip stores its rows of the dequantized
  matrix into the scratch buffer and takes their absolute values into the running column maxima, of which there are
  eight rows, one for each remainder of the row number by eight. After all trips the scratch holds the whole
  dequantized matrix, and the largest of the eight running maxima is the column's largest absolute value.
-/
module

public import proofs.«01_k».proof.Proof.Gen.KernelIdeal.Loops
public import Idealize.ShloMosaic.Lib.Pipeline.ReadBack
public import Idealize.ShloMosaic.Lib.Ring
public import proofs.«01_k».proof.Proof.Payload

@[expose] public section

set_option maxRecDepth 16384

noncomputable section

namespace Cert.KernelIdeal.Body

open Cert.KernelIdeal Cert.KernelIdeal.Gen Idealize.ShloMosaic Idealize.ShloMosaic.TcCoe Idealize.ShloMosaic.Tactic

/-- The codes of one batch's block by row and column. -/
def codesM (x0 : Vec Ideal S1x1024x1280 .fp8e4m3) (r : Fin 1024) (j : Fin 1280) : EReal := x0 (ix3 0 r j)

/-- The scales of one batch's block by row and column group. -/
def scalesM (x1 : Vec Ideal S1x1024x10 .f32) (r : Fin 1024) (g : Fin 10) : EReal := x1 (ix3 0 r g)

/-- The dequantized matrix of one batch's block. -/
def XM (x0 : Vec Ideal S1x1024x1280 .fp8e4m3) (x1 : Vec Ideal S1x1024x10 .f32) (r : Fin 1024) (j : Fin 1280) : EReal :=
  Spec.X (codesM x0) (scalesM x1) r j

/-- The dequantized matrix as contents of the scratch buffer. -/
def XX (x0 : Vec Ideal S1x1024x1280 .fp8e4m3) (x1 : Vec Ideal S1x1024x10 .f32) : S1024x1280.Idx → Elt Ideal .f32 :=
  fun y => XM x0 x1 (y 0) (y 1)

variable (x0 : Vec Ideal S1x1024x1280 .fp8e4m3) (x1 : Vec Ideal S1x1024x10 .f32)

theorem trips1 : k0_t1_loop.trips = 32 := by decide +kernel

/-- Trip `k`'s rows of group `g`, dequantized, are those of the dequantized matrix. -/
theorem xval_read (k : Fin k0_t1_loop.trips) (g : Fin 10) (hs : S32x10.Slices ![0, g.val] S32x1) {o2 o1 : Fin 3 → ℕ}
    {i2 : ∀ a, o2 a + S1x32x10.size a ≤ S1x1024x10.size a} {i1 : ∀ a, o1 a + S1x32x128.size a ≤ S1x1024x1280.size a}
    (h2 : o2 = ![0, 32 * k.val, 0]) (h1 : o1 = ![0, 32 * k.val, 128 * g.val]) (r : Fin 32) (l : Fin 128) :
    xval ![0, g.val] hs (View.ld x1 (Rect.unit o2 S1x32x10.size i2)) (View.ld x0 (Rect.unit o1 S1x32x128.size i1)) (ix2 r l)
      = XM x0 x1 ⟨32 * k.val + r.val, by have := k.isLt; have := trips1; omega⟩ ⟨128 * g.val + l.val, by omega⟩ := by
  subst h2 h1
  rw [xval_apply]
  have hg : Spec.grp ⟨128 * g.val + l.val, by omega⟩ = g := Fin.ext (by show (128 * g.val + l.val) / 128 = g.val; omega)
  unfold XM Spec.X codesM scalesM
  rw [hg]
  refine congrArg₂ (· * ·) (congrArg x0 ?_) (congrArg x1 ?_)
  · funext a; apply Fin.ext
    match a with
    | ⟨0, _⟩ => rfl
    | ⟨1, _⟩ => show 32 * k.val + 1 * r.val = 32 * k.val + r.val; omega
    | ⟨2, _⟩ => show 128 * g.val + 1 * l.val = 128 * g.val + l.val; omega
  · funext a; apply Fin.ext
    match a with
    | ⟨0, _⟩ => rfl
    | ⟨1, _⟩ => show 32 * k.val + 1 * r.val = 32 * k.val + r.val; omega
    | ⟨2, _⟩ => show 0 + 1 * g.val = g.val; omega

/-- So what trip `k` stores for group `g` is a block of the dequantized matrix. -/
theorem xpiece (k : Fin k0_t1_loop.trips) (g : Fin 10) (hs : S32x10.Slices ![0, g.val] S32x1) {o2 o1 : Fin 3 → ℕ} {o : Fin 2 → ℕ}
    {i2 : ∀ a, o2 a + S1x32x10.size a ≤ S1x1024x10.size a} {i1 : ∀ a, o1 a + S1x32x128.size a ≤ S1x1024x1280.size a}
    {io : ∀ a, o a + S32x128.size a ≤ S1024x1280.size a}
    (h2 : o2 = ![0, 32 * k.val, 0]) (h1 : o1 = ![0, 32 * k.val, 128 * g.val]) (h : o = ![32 * k.val, 128 * g.val]) (x : S32x128.Idx) :
    shapeCast S32x128 (xval ![0, g.val] hs (View.ld x1 (Rect.unit o2 S1x32x10.size i2)) (View.ld x0 (Rect.unit o1 S1x32x128.size i1))) shapeCasts_S32x128_S32x128 x
      = XX x0 x1 ((Rect.unit (s := S1024x1280) o S32x128.size io).emb x) := by
  subst h
  obtain ⟨r, l, rfl⟩ : ∃ (r : Fin 32) (l : Fin 128), x = ix2 r l := ⟨x 0, x 1, eq_ix2 x⟩
  rw [shapeCast_self, xval_read x0 x1 k g hs h2 h1]
  unfold XX
  refine congrArg₂ _ (Fin.ext ?_) (Fin.ext ?_)
  · show 32 * k.val + r.val = 32 * k.val + 1 * r.val; omega
  · show 128 * g.val + l.val = 128 * g.val + 1 * l.val; omega

/-- What group `g`'s running maxima hold before trip `n`: at row `s` of eight, the maximum of zero and of the absolute
    values in the rows handled so far whose number leaves the remainder `s`. -/
def AccOK (g : Fin 10) (n : ℕ) (a : FVec Ideal S8x128 .f32) : Prop :=
  ∀ (s : Fin 8) (l : Fin 128) (b : EReal), (a (ix2 s l) : EReal) ≤ b ↔ 0 ≤ b ∧
    ∀ r : Fin 1024, r.val < 32 * n → r.val % 8 = s.val →
      max (XM x0 x1 r ⟨128 * g.val + l.val, by omega⟩) (-(XM x0 x1 r ⟨128 * g.val + l.val, by omega⟩)) ≤ b

/-- It holds of the zeros that the loop starts from. -/
theorem acc_zero (g : Fin 10) : AccOK x0 x1 g 0 k0_pay40 := by
  intro s l b
  rw [show (k0_pay40 (F := Ideal) (ix2 s l) : EReal) = 0 from Spec.bits_zero]
  exact ⟨fun h => ⟨h, fun r hr => by omega⟩, fun h => h.1⟩

/-- It is kept by one trip. -/
theorem acc_succ (k : Fin k0_t1_loop.trips) (g : Fin 10) (hs : S32x10.Slices ![0, g.val] S32x1) {o2 o1 : Fin 3 → ℕ}
    {i2 : ∀ a, o2 a + S1x32x10.size a ≤ S1x1024x10.size a} {i1 : ∀ a, o1 a + S1x32x128.size a ≤ S1x1024x1280.size a}
    (h2 : o2 = ![0, 32 * k.val, 0]) (h1 : o1 = ![0, 32 * k.val, 128 * g.val]) (a : FVec Ideal S8x128 .f32) (ha : AccOK x0 x1 g k.val a) :
    AccOK x0 x1 g (k.val + 1) (accStep a (xval ![0, g.val] hs (View.ld x1 (Rect.unit o2 S1x32x10.size i2)) (View.ld x0 (Rect.unit o1 S1x32x128.size i1)))) := by
  have hk : k.val < 32 := Nat.lt_of_lt_of_eq k.isLt trips1
  intro s l b
  rw [accStep_le, ha s l b, and_assoc]
  refine and_congr_right fun _ => ?_
  simp only [xval_read x0 x1 k g hs h2 h1]
  constructor
  · rintro ⟨hlt, hnew⟩ r hr hrs
    by_cases h : r.val < 32 * k.val
    · exact hlt r h hrs
    · have := hnew ⟨(r.val - 32 * k.val) / 8, by omega⟩
      have e : (⟨32 * k.val + ((r.val - 32 * k.val) / 8 * 8 + s.val), by omega⟩ : Fin 1024) = r := Fin.ext (by show 32 * k.val + ((r.val - 32 * k.val) / 8 * 8 + s.val) = r.val; omega)
      rw [e] at this
      exact this
  · intro hall
    refine ⟨fun r hr hrs => hall r (by omega) hrs, fun q => hall _ ?_ ?_⟩
    · show 32 * k.val + (q.val * 8 + s.val) < 32 * (k.val + 1); omega
    · show (32 * k.val + (q.val * 8 + s.val)) % 8 = s.val; omega

/-- The ten groups' running maxima before trip `n`. -/
def AccAll (n : ℕ) (a : FVec Ideal S8x128 .f32 × FVec Ideal S8x128 .f32 × FVec Ideal S8x128 .f32 × FVec Ideal S8x128 .f32 × FVec Ideal S8x128 .f32
    × FVec Ideal S8x128 .f32 × FVec Ideal S8x128 .f32 × FVec Ideal S8x128 .f32 × FVec Ideal S8x128 .f32 × FVec Ideal S8x128 .f32) : Prop :=
  AccOK x0 x1 0 n a.1 ∧
    AccOK x0 x1 1 n a.2.1 ∧
    AccOK x0 x1 2 n a.2.2.1 ∧
    AccOK x0 x1 3 n a.2.2.2.1 ∧
    AccOK x0 x1 4 n a.2.2.2.2.1 ∧
    AccOK x0 x1 5 n a.2.2.2.2.2.1 ∧
    AccOK x0 x1 6 n a.2.2.2.2.2.2.1 ∧
    AccOK x0 x1 7 n a.2.2.2.2.2.2.2.1 ∧
    AccOK x0 x1 8 n a.2.2.2.2.2.2.2.2.1 ∧
    AccOK x0 x1 9 n a.2.2.2.2.2.2.2.2.2

variable (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole)

/-- The ten stores of one trip are blocks of the dequantized matrix. -/
theorem trip_pieces (k : Fin k0_t1_loop.trips) (acc) : View.PiecesOf (XX x0 x1)
    (tripL_k0_t1 (F := Ideal) Variants.none c none i arg1 harg1 arg2 harg2 arg3 harg3 arg4 harg4 arg5 harg5 (harg1.unread x0) (harg2.unread x1) k acc) := by
  unfold tripL_k0_t1 trip_k0_t1
  dsimp only
  sl_unfold_words
  simp only [View.readAt_eq_ld, harg1.read_unread, harg2.read_unread]
  exact ⟨xpiece x0 x1 k 9 _ (io := k0_off21_inb k) (k0_off1_eq k) (k0_off20_eq k) (k0_off21_eq k),
    xpiece x0 x1 k 8 _ (io := k0_off19_inb k) (k0_off1_eq k) (k0_off18_eq k) (k0_off19_eq k),
    xpiece x0 x1 k 7 _ (io := k0_off17_inb k) (k0_off1_eq k) (k0_off16_eq k) (k0_off17_eq k),
    xpiece x0 x1 k 6 _ (io := k0_off15_inb k) (k0_off1_eq k) (k0_off14_eq k) (k0_off15_eq k),
    xpiece x0 x1 k 5 _ (io := k0_off13_inb k) (k0_off1_eq k) (k0_off12_eq k) (k0_off13_eq k),
    xpiece x0 x1 k 4 _ (io := k0_off11_inb k) (k0_off1_eq k) (k0_off10_eq k) (k0_off11_eq k),
    xpiece x0 x1 k 3 _ (io := k0_off9_inb k) (k0_off1_eq k) (k0_off8_eq k) (k0_off9_eq k),
    xpiece x0 x1 k 2 _ (io := k0_off7_inb k) (k0_off1_eq k) (k0_off6_eq k) (k0_off7_eq k),
    xpiece x0 x1 k 1 _ (io := k0_off5_inb k) (k0_off1_eq k) (k0_off4_eq k) (k0_off5_eq k),
    xpiece x0 x1 k 0 _ (io := k0_off3_inb k) (k0_off1_eq k) (k0_off2_eq k) (k0_off3_eq k), trivial⟩

/-- One trip takes its rows into the ten groups' running maxima. -/
theorem trip_acc (k : Fin k0_t1_loop.trips) (acc) (h : AccAll x0 x1 k.val acc) : AccAll x0 x1 (k.val + 1)
    (tripR_k0_t1 (F := Ideal) Variants.none c none i arg1 harg1 arg2 harg2 arg3 harg3 arg4 harg4 arg5 harg5 (harg1.unread x0) (harg2.unread x1) k acc) := by
  unfold tripR_k0_t1 trip_k0_t1
  dsimp only
  sl_unfold_words
  simp only [View.readAt_eq_ld, harg1.read_unread, harg2.read_unread]
  exact ⟨acc_succ x0 x1 k 0 _ (k0_off1_eq k) (k0_off2_eq k) _ h.1,
    acc_succ x0 x1 k 1 _ (k0_off1_eq k) (k0_off4_eq k) _ h.2.1,
    acc_succ x0 x1 k 2 _ (k0_off1_eq k) (k0_off6_eq k) _ h.2.2.1,
    acc_succ x0 x1 k 3 _ (k0_off1_eq k) (k0_off8_eq k) _ h.2.2.2.1,
    acc_succ x0 x1 k 4 _ (k0_off1_eq k) (k0_off10_eq k) _ h.2.2.2.2.1,
    acc_succ x0 x1 k 5 _ (k0_off1_eq k) (k0_off12_eq k) _ h.2.2.2.2.2.1,
    acc_succ x0 x1 k 6 _ (k0_off1_eq k) (k0_off14_eq k) _ h.2.2.2.2.2.2.1,
    acc_succ x0 x1 k 7 _ (k0_off1_eq k) (k0_off16_eq k) _ h.2.2.2.2.2.2.2.1,
    acc_succ x0 x1 k 8 _ (k0_off1_eq k) (k0_off18_eq k) _ h.2.2.2.2.2.2.2.2.1,
    acc_succ x0 x1 k 9 _ (k0_off1_eq k) (k0_off20_eq k) _ h.2.2.2.2.2.2.2.2.2⟩

/-- The pieces of two lists together are blocks of what each list's are. -/
theorem piecesOf_append {sh : Shape} {e : EltTy} (G : sh.Idx → Elt Ideal e) : ∀ (L L' : List (View.Piece (Elt Ideal) sh e)),
    View.PiecesOf G L → View.PiecesOf G L' → View.PiecesOf G (L ++ L')
  | [], _, _, h' => h'
  | _ :: L, L', h, h' => ⟨h.1, piecesOf_append G L L' h.2 h'⟩

/-- The loop's state before trip `n`. -/
abbrev st1 (n : ℕ) := st_k0_t1 (F := Ideal) Variants.none c none i arg1 harg1 arg2 harg2 arg3 harg3 arg4 harg4 arg5 harg5 (harg1.unread x0) (harg2.unread x1)
  (k0_pay40, k0_pay40, k0_pay40, k0_pay40, k0_pay40, k0_pay40, k0_pay40, k0_pay40, k0_pay40, k0_pay40) n

/-- The state before trip `n`: blocks of the dequantized matrix stored, and the running maxima of the rows so far. -/
theorem st1_inv : ∀ n : ℕ, n ≤ 32 →
    View.PiecesOf (XX x0 x1) (st1 x0 x1 c i arg1 harg1 arg2 harg2 arg3 harg3 arg4 harg4 arg5 harg5 n).2
      ∧ AccAll x0 x1 n (st1 x0 x1 c i arg1 harg1 arg2 harg2 arg3 harg3 arg4 harg4 arg5 harg5 n).1
  | 0, _ => ⟨trivial, acc_zero x0 x1 _, acc_zero x0 x1 _, acc_zero x0 x1 _, acc_zero x0 x1 _, acc_zero x0 x1 _, acc_zero x0 x1 _, acc_zero x0 x1 _, acc_zero x0 x1 _, acc_zero x0 x1 _, acc_zero x0 x1 _⟩
  | n + 1, hn => by
    obtain ⟨hp, ha⟩ := st1_inv n (by omega)
    have e := st_k0_t1_succ (F := Ideal) Variants.none c none i arg1 harg1 arg2 harg2 arg3 harg3 arg4 harg4 arg5 harg5 (harg1.unread x0) (harg2.unread x1) (k0_pay40, k0_pay40, k0_pay40, k0_pay40, k0_pay40, k0_pay40, k0_pay40, k0_pay40, k0_pay40, k0_pay40) ⟨n, by have := trips1; omega⟩
    unfold st1
    rw [e]
    exact ⟨piecesOf_append _ _ _ (trip_pieces x0 x1 c i arg1 harg1 arg2 harg2 arg3 harg3 arg4 harg4 arg5 harg5 ⟨n, _⟩ _) hp,
      trip_acc x0 x1 c i arg1 harg1 arg2 harg2 arg3 harg3 arg4 harg4 arg5 harg5 ⟨n, _⟩ _ ha⟩

/-- Whatever the scratch held before, after the loop it holds the dequantized matrix. -/
theorem scratch_eq (f : BufTy.Contents (Elt Ideal) arg5.view.ty) :
    View.read (Elt Ideal) arg5.view (arg5.view.writes (Elt Ideal) f
      (st1 x0 x1 c i arg1 harg1 arg2 harg2 arg3 harg3 arg4 harg4 arg5 harg5 (Scf.trips k0_t1_loop.lb k0_t1_loop.ub k0_t1_loop.st)).2) = XX x0 x1 := by
  have hc := View.cover_of_tiledL (st1 x0 x1 c i arg1 harg1 arg2 harg2 arg3 harg3 arg4 harg4 arg5 harg5 (Scf.trips k0_t1_loop.lb k0_t1_loop.ub k0_t1_loop.st)).2 S32x128.size (by sl_kernel_rfl)
  rw [View.read_writes_eq_canon _ _ _ hc]
  funext y
  exact View.canon_apply_of_pieces _ _ (st1_inv x0 x1 c i arg1 harg1 arg2 harg2 arg3 harg3 arg4 harg4 arg5 harg5 _ (le_of_eq trips1)).1.mem y (hc y)

/-- The largest of the eight rows of running maxima after the last trip is the column's largest absolute value. -/
theorem fold8_eq (g : Fin 10) (a : FVec Ideal S8x128 .f32) (h : AccOK x0 x1 g 32 a) (l : Fin 128) :
    fold8 a l = Spec.amax fun r => XM x0 x1 r ⟨128 * g.val + l.val, by omega⟩ := by
  refine Spec.eq_amax _ _ fun b => ?_
  unfold fold8
  rw [Finset.fold_max_le, Spec.bits_bot]
  simp only [bot_le, true_and, Finset.mem_univ, forall_const]
  constructor
  · intro hb
    refine ⟨((h 0 l b).mp (hb 0)).1, fun r => ((h ⟨r.val % 8, by omega⟩ l b).mp (hb _)).2 r (by omega) rfl⟩
  · exact fun hb s => (h s l b).mpr ⟨hb.1, fun r _ _ => hb.2 r⟩

end Cert.KernelIdeal.Body

end
-- ==== Proof.Requant.lean ====
/-
  The kernel's second half: the new scales from the running maxima, and the second loop, which multiplies the
  dequantized matrix in the scratch buffer by the reciprocals of the scales, rounds, cuts and stores the codes,
  thirty-two rows per trip. Multiplying by the reciprocal is dividing, since no scale is zero.
-/
module

public import proofs.«01_k».proof.Proof.Dequant

@[expose] public section

set_option maxRecDepth 16384

noncomputable section

namespace Cert.KernelIdeal.Body

open Cert.KernelIdeal Cert.KernelIdeal.Gen Idealize.ShloMosaic Idealize.ShloMosaic.TcCoe Idealize.ShloMosaic.Tactic

variable (x0 : Vec Ideal S1x1024x1280 .fp8e4m3) (x1 : Vec Ideal S1x1024x10 .f32)

/-- The requantized codes of one batch's block. -/
def QQ : Vec Ideal S1x1024x1280 .i8 := fun y => Spec.Q (codesM x0) (scalesM x1) (y 1) (y 2)

/-- The new scales of one batch's block. -/
def SS : Vec Ideal S1x1x1280 .f32 := fun y => Spec.SC (codesM x0) (scalesM x1) (y 2)

theorem trips2 : k0_t2_loop.trips = 32 := by decide +kernel

/-- The scales that the kernel computes from group `g`'s running maxima. -/
theorem scl_eq (g : Fin 10) (a : FVec Ideal S8x128 .f32) (h : AccOK x0 x1 g 32 a) (l : Fin 128) :
    scl a (ix2 0 l) = Spec.SC (codesM x0) (scalesM x1) ⟨128 * g.val + l.val, by omega⟩ := by
  rw [scl_apply, fold8_eq x0 x1 g a h]
  rfl

/-- What the kernel stores of them is a block of the new scales. -/
theorem spiece (g : Fin 10) (a : FVec Ideal S8x128 .f32) (h : AccOK x0 x1 g 32 a) {o : Fin 3 → ℕ}
    {io : ∀ a, o a + S1x1x128.size a ≤ S1x1x1280.size a} (ho : o = ![0, 0, 128 * g.val]) (x : S1x1x128.Idx) :
    shapeCast S1x1x128 (scl a) shapeCasts_S1x128_S1x1x128 x = SS x0 x1 ((Rect.unit (s := S1x1x1280) o S1x1x128.size io).emb x) := by
  subst ho
  obtain ⟨l, rfl⟩ : ∃ (l : Fin 128), x = ix3 0 0 l := ⟨x 2, by rw [eq_ix3 x]; congr 1 <;> exact Subsingleton.elim (α := Fin 1) _ _⟩
  have e : shapeCast S1x1x128 (scl a) shapeCasts_S1x128_S1x1x128 (ix3 0 0 l) = scl a (ix2 0 l) := by pointwise
  rw [e, scl_eq x0 x1 g a h]
  unfold SS
  refine congrArg _ (Fin.ext ?_)
  show 128 * g.val + l.val = 128 * g.val + 1 * l.val; omega

/-- The vector `v` holds the reciprocals of group `g`'s scales, the same in each of eight rows. -/
def InvOK (g : Fin 10) (v : FVec Ideal S8x128 .f32) : Prop :=
  ∀ (s : Fin 8) (l : Fin 128), v (ix2 s l) = FloatOps.divf (FloatOps.ofBits .f32 0x3F800000#32)
    (Spec.SC (codesM x0) (scalesM x1) ⟨128 * g.val + l.val, by omega⟩)

theorem inv_ok (g : Fin 10) (a : FVec Ideal S8x128 .f32) (h : AccOK x0 x1 g 32 a) : InvOK x0 x1 g (inv (scl a)) := by
  intro s l
  rw [inv_apply, scl_eq x0 x1 g a h]

/-- What trip `k` of the second loop stores for group `g` is a block of the requantized codes. -/
theorem qpiece (k : Fin k0_t2_loop.trips) (g : Fin 10) {v : FVec Ideal S8x128 .f32} (hv : InvOK x0 x1 g v) {o2 : Fin 2 → ℕ} {o : Fin 3 → ℕ}
    {i2 : ∀ a, o2 a + S32x128.size a ≤ S1024x1280.size a} {io : ∀ a, o a + S1x32x128.size a ≤ S1x1024x1280.size a}
    (h2 : o2 = ![32 * k.val, 128 * g.val]) (h : o = ![0, 32 * k.val, 128 * g.val]) (x : S1x32x128.Idx) :
    quant v (View.ld (XX x0 x1) (Rect.unit o2 S32x128.size i2)) x = QQ x0 x1 ((Rect.unit (s := S1x1024x1280) o S1x32x128.size io).emb x) := by
  have hk : k.val < 32 := Nat.lt_of_lt_of_eq k.isLt trips2
  subst h2 h
  obtain ⟨r, l, rfl⟩ : ∃ (r : Fin 32) (l : Fin 128), x = ix3 0 r l := ⟨x 1, x 2, by rw [eq_ix3 x]; congr 1; exact Subsingleton.elim (α := Fin 1) _ _⟩
  rw [quant_apply, hv, Spec.mulf_recip _ _ (Spec.SC_ne_zero _ _ _)]
  have er : (⟨32 * k.val + 1 * r.val, by omega⟩ : Fin 1024) = ⟨32 * k.val + r.val, by omega⟩ := Fin.ext (by simp)
  have el : (⟨128 * g.val + 1 * l.val, by omega⟩ : Fin 1280) = ⟨128 * g.val + l.val, by omega⟩ := Fin.ext (by simp)
  show Spec.cut (FloatOps.divf (F := Ideal) (φ := .f32) (XM x0 x1 ⟨32 * k.val + 1 * r.val, by omega⟩ ⟨128 * g.val + 1 * l.val, by omega⟩) _)
    = Spec.Q (codesM x0) (scalesM x1) ⟨32 * k.val + 1 * r.val, by omega⟩ ⟨128 * g.val + 1 * l.val, by omega⟩
  rw [er, el]
  rfl

/-- The ten stores of one trip are blocks of the requantized codes. -/
theorem trip2_pieces (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole) (v17 : FVec Ideal S8x128 .f32) (v32 : FVec Ideal S8x128 .f32) (v47 : FVec Ideal S8x128 .f32) (v62 : FVec Ideal S8x128 .f32) (v77 : FVec Ideal S8x128 .f32) (v92 : FVec Ideal S8x128 .f32) (v107 : FVec Ideal S8x128 .f32) (v122 : FVec Ideal S8x128 .f32) (v137 : FVec Ideal S8x128 .f32) (v145 : FVec Ideal S1x128 .f32) (X5 : BufTy.Contents (Elt Ideal) arg5.view.ty)
    (hX : View.read (Elt Ideal) arg5.view X5 = XX x0 x1) (h0 : InvOK x0 x1 0 v17) (h1 : InvOK x0 x1 1 v32) (h2 : InvOK x0 x1 2 v47) (h3 : InvOK x0 x1 3 v62) (h4 : InvOK x0 x1 4 v77) (h5 : InvOK x0 x1 5 v92) (h6 : InvOK x0 x1 6 v107) (h7 : InvOK x0 x1 7 v122) (h8 : InvOK x0 x1 8 v137) (h9 : InvOK x0 x1 9 (inv v145)) (k : Fin k0_t2_loop.trips) :
    View.PiecesOf (QQ x0 x1) (tripL_k0_t2 (F := Ideal) Variants.none c none i arg1 harg1 arg2 harg2 arg3 harg3 arg4 harg4 arg5 harg5 v17 v32 v47 v62 v77 v92 v107 v122 v137 v145 X5 k) := by
  unfold tripL_k0_t2 trip_k0_t2
  dsimp only
  sl_unfold_words
  simp only [View.readAt_eq_ld, hX]
  exact ⟨qpiece x0 x1 k 9 (io := k0_off41_inb k) h9 (k0_off40_eq k) (k0_off41_eq k),
    qpiece x0 x1 k 8 (io := k0_off39_inb k) h8 (k0_off38_eq k) (k0_off39_eq k),
    qpiece x0 x1 k 7 (io := k0_off37_inb k) h7 (k0_off36_eq k) (k0_off37_eq k),
    qpiece x0 x1 k 6 (io := k0_off35_inb k) h6 (k0_off34_eq k) (k0_off35_eq k),
    qpiece x0 x1 k 5 (io := k0_off33_inb k) h5 (k0_off32_eq k) (k0_off33_eq k),
    qpiece x0 x1 k 4 (io := k0_off31_inb k) h4 (k0_off30_eq k) (k0_off31_eq k),
    qpiece x0 x1 k 3 (io := k0_off29_inb k) h3 (k0_off28_eq k) (k0_off29_eq k),
    qpiece x0 x1 k 2 (io := k0_off27_inb k) h2 (k0_off26_eq k) (k0_off27_eq k),
    qpiece x0 x1 k 1 (io := k0_off25_inb k) h1 (k0_off24_eq k) (k0_off25_eq k),
    qpiece x0 x1 k 0 (io := k0_off23_inb k) h0 (k0_off22_eq k) (k0_off23_eq k), trivial⟩

/-- So are the stores of the trips before trip `n`. -/
theorem pb2_pieces (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole) (v17 : FVec Ideal S8x128 .f32) (v32 : FVec Ideal S8x128 .f32) (v47 : FVec Ideal S8x128 .f32) (v62 : FVec Ideal S8x128 .f32) (v77 : FVec Ideal S8x128 .f32) (v92 : FVec Ideal S8x128 .f32) (v107 : FVec Ideal S8x128 .f32) (v122 : FVec Ideal S8x128 .f32) (v137 : FVec Ideal S8x128 .f32) (v145 : FVec Ideal S1x128 .f32) (X5 : BufTy.Contents (Elt Ideal) arg5.view.ty)
    (hX : View.read (Elt Ideal) arg5.view X5 = XX x0 x1) (h0 : InvOK x0 x1 0 v17) (h1 : InvOK x0 x1 1 v32) (h2 : InvOK x0 x1 2 v47) (h3 : InvOK x0 x1 3 v62) (h4 : InvOK x0 x1 4 v77) (h5 : InvOK x0 x1 5 v92) (h6 : InvOK x0 x1 6 v107) (h7 : InvOK x0 x1 7 v122) (h8 : InvOK x0 x1 8 v137) (h9 : InvOK x0 x1 9 (inv v145)) : ∀ n : ℕ, n ≤ 32 →
    View.PiecesOf (QQ x0 x1) (pb_k0_t2 (F := Ideal) Variants.none c none i arg1 harg1 arg2 harg2 arg3 harg3 arg4 harg4 arg5 harg5 v17 v32 v47 v62 v77 v92 v107 v122 v137 v145 X5 n)
  | 0, _ => trivial
  | n + 1, hn => by
    rw [pb_k0_t2_succ (F := Ideal) Variants.none c none i arg1 harg1 arg2 harg2 arg3 harg3 arg4 harg4 arg5 harg5 v17 v32 v47 v62 v77 v92 v107 v122 v137 v145 X5 ⟨n, by have := trips2; omega⟩]
    exact piecesOf_append _ _ _ (trip2_pieces x0 x1 c i arg1 harg1 arg2 harg2 arg3 harg3 arg4 harg4 arg5 harg5 v17 v32 v47 v62 v77 v92 v107 v122 v137 v145 X5 hX h0 h1 h2 h3 h4 h5 h6 h7 h8 h9 _)
      (pb2_pieces c i arg1 harg1 arg2 harg2 arg3 harg3 arg4 harg4 arg5 harg5 v17 v32 v47 v62 v77 v92 v107 v122 v137 v145 X5 hX h0 h1 h2 h3 h4 h5 h6 h7 h8 h9 n (by omega))

/-- Whatever the codes' buffer held before, after the second loop it holds the requantized codes. -/
theorem codes_eq (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole) (v17 : FVec Ideal S8x128 .f32) (v32 : FVec Ideal S8x128 .f32) (v47 : FVec Ideal S8x128 .f32) (v62 : FVec Ideal S8x128 .f32) (v77 : FVec Ideal S8x128 .f32) (v92 : FVec Ideal S8x128 .f32) (v107 : FVec Ideal S8x128 .f32) (v122 : FVec Ideal S8x128 .f32) (v137 : FVec Ideal S8x128 .f32) (v145 : FVec Ideal S1x128 .f32) (X5 : BufTy.Contents (Elt Ideal) arg5.view.ty)
    (hX : View.read (Elt Ideal) arg5.view X5 = XX x0 x1) (h0 : InvOK x0 x1 0 v17) (h1 : InvOK x0 x1 1 v32) (h2 : InvOK x0 x1 2 v47) (h3 : InvOK x0 x1 3 v62) (h4 : InvOK x0 x1 4 v77) (h5 : InvOK x0 x1 5 v92) (h6 : InvOK x0 x1 6 v107) (h7 : InvOK x0 x1 7 v122) (h8 : InvOK x0 x1 8 v137) (h9 : InvOK x0 x1 9 (inv v145)) (f : BufTy.Contents (Elt Ideal) arg3.view.ty) :
    View.read (Elt Ideal) arg3.view (arg3.view.writes (Elt Ideal) f
      (pb_k0_t2 (F := Ideal) Variants.none c none i arg1 harg1 arg2 harg2 arg3 harg3 arg4 harg4 arg5 harg5 v17 v32 v47 v62 v77 v92 v107 v122 v137 v145 X5 (Scf.trips k0_t2_loop.lb k0_t2_loop.ub k0_t2_loop.st))) = QQ x0 x1 := by
  have hc := View.cover_of_tiledL (pb_k0_t2 (F := Ideal) Variants.none c none i arg1 harg1 arg2 harg2 arg3 harg3 arg4 harg4 arg5 harg5 v17 v32 v47 v62 v77 v92 v107 v122 v137 v145 X5 (Scf.trips k0_t2_loop.lb k0_t2_loop.ub k0_t2_loop.st)) S1x32x128.size (by sl_kernel_rfl)
  rw [View.read_writes_eq_canon _ _ _ hc]
  funext y
  exact View.canon_apply_of_pieces _ _ (pb2_pieces x0 x1 c i arg1 harg1 arg2 harg2 arg3 harg3 arg4 harg4 arg5 harg5 v17 v32 v47 v62 v77 v92 v107 v122 v137 v145 X5 hX h0 h1 h2 h3 h4 h5 h6 h7 h8 h9 _ (le_of_eq trips2)).mem y (hc y)

/-- Ten stores that are blocks of the new scales and tile their buffer leave the new scales. -/
theorem scales_eq {κ : Kind} {sp : Space} (v : View sig κ sp S1x1x1280 .f32) (L : List (View.Piece (Elt Ideal) S1x1x1280 .f32)) (h : View.PiecesOf (SS x0 x1) L)
    (hc : ∀ y : S1x1x1280.Idx, ∃ p ∈ L, y ∈ p.1.set) : v.read (Elt Ideal) (v.writes (Elt Ideal) v.junk L) = SS x0 x1 := by
  rw [View.read_writes_junk_eq_canon]
  funext y
  exact View.canon_apply_of_pieces _ _ h.mem y (hc y)

end Cert.KernelIdeal.Body

end
-- ==== Proof.Body.lean ====
/-
  The kernel's body as a whole: run on a batch's blocks, it leaves the requantized codes and the new scales in the two
  output buffers, whatever those buffers and the scratch held before.
-/
module

public import proofs.«01_k».proof.Proof.Gen.KernelIdeal.Frame.Runs
public import proofs.«01_k».proof.Proof.Requant

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The body's run: on whole buffers, the inputs' at `x0` and `x1` and the others at anything, it ends with the inputs'
    unchanged, the requantized codes and the new scales in the outputs' and the scratch at something. -/
theorem body_run (c : Dev nD) (i : grid0.Coords) (arg1 : Memref sig .tc .vmem S1x1024x1280 .fp8e4m3) (harg1 : arg1.IsWhole) (arg2 : Memref sig .tc .vmem S1x1024x10 .f32) (harg2 : arg2.IsWhole) (arg3 : Memref sig .tc .vmem S1x1024x1280 .i8) (harg3 : arg3.IsWhole) (arg4 : Memref sig .tc .vmem S1x1x1280 .f32) (harg4 : arg4.IsWhole) (arg5 : Memref sig .tc .vmem S1024x1280 .f32) (harg5 : arg5.IsWhole)
    (x0 : Vec Ideal S1x1024x1280 .fp8e4m3) (x1 : Vec Ideal S1x1024x10 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (QQ x0 x1) ∗ owns (c : Thread nD τ) arg4 fullShare (SS x0 x1) ∗ (∃ d, owns (c : Thread nD τ) arg5 fullShare d)) -∗ K ⟨⟩))
      ⊢ wp frame (wpE (defs₀ (F := Ideal)) Variants.none c none) E (cc0_fp8_to_int8_requant i arg1 harg1 arg2 harg2 arg3 harg3 arg4 harg4 arg5 harg5) K := by
  have ha := (st1_inv x0 x1 c i arg1 harg1 arg2 harg2 arg3 harg3 arg4 harg4 arg5 harg5 32 le_rfl).2
  simp only [cc0_fp8_to_int8_requant_eq_skeleton]; unfold cc0_fp8_to_int8_requant_skel
  simp only [k0_part7_eq_skeleton, k0_part8_eq_skeleton, k0_part9_eq_skeleton, k0_part10_eq_skeleton]
  unfold owns
  iintro ⟨⟨%f0, %hf0, H0⟩, ⟨%f1, %hf1, H1⟩, ⟨%d2, %f2, -, H2⟩, ⟨%d3, %f3, -, H3⟩, ⟨%ds0, %fs0, -, HS0⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap
    · iexact H2
    ipureintro
    sl_unfold_words
    refine codes_eq x0 x1 c i arg1 harg1 arg2 harg2 arg3 harg3 arg4 harg4 arg5 harg5 _ _ _ _ _ _ _ _ _ _ _ ?_ ?_ ?_ ?_ ?_ ?_ ?_ ?_ ?_ ?_ ?_ f2
    · exact scratch_eq x0 x1 c i arg1 harg1 arg2 harg2 arg3 harg3 arg4 harg4 arg5 harg5 fs0
    · exact inv_ok x0 x1 0 _ ha.1
    · exact inv_ok x0 x1 1 _ ha.2.1
    · exact inv_ok x0 x1 2 _ ha.2.2.1
    · exact inv_ok x0 x1 3 _ ha.2.2.2.1
    · exact inv_ok x0 x1 4 _ ha.2.2.2.2.1
    · exact inv_ok x0 x1 5 _ ha.2.2.2.2.2.1
    · exact inv_ok x0 x1 6 _ ha.2.2.2.2.2.2.1
    · exact inv_ok x0 x1 7 _ ha.2.2.2.2.2.2.2.1
    · exact inv_ok x0 x1 8 _ ha.2.2.2.2.2.2.2.2.1
    · exact inv_ok x0 x1 9 _ ha.2.2.2.2.2.2.2.2.2
  isplitl [H3]
  · iexists _; isplitr
    swap
    · iexact H3
    ipureintro
    sl_unfold_words
    refine scales_eq x0 x1 arg4.view _ ?_ ?_
    · exact ⟨spiece x0 x1 9 _ ha.2.2.2.2.2.2.2.2.2 (io := by decide) rfl,
        spiece x0 x1 8 _ ha.2.2.2.2.2.2.2.2.1 (io := by decide) rfl,
        spiece x0 x1 7 _ ha.2.2.2.2.2.2.2.1 (io := by decide) rfl,
        spiece x0 x1 6 _ ha.2.2.2.2.2.2.1 (io := by decide) rfl,
        spiece x0 x1 5 _ ha.2.2.2.2.2.1 (io := by decide) rfl,
        spiece x0 x1 4 _ ha.2.2.2.2.1 (io := by decide) rfl,
        spiece x0 x1 3 _ ha.2.2.2.1 (io := by decide) rfl,
        spiece x0 x1 2 _ ha.2.2.1 (io := by decide) rfl,
        spiece x0 x1 1 _ ha.2.1 (io := by decide) rfl,
        spiece x0 x1 0 _ ha.1 (io := by decide) rfl, trivial⟩
    · exact View.cover_of_tiledL _ S1x1x128.size (by sl_kernel_rfl)
  iexists _, _; isplitr; swap; · iexact HS0
  ipureintro; rfl

end Cert.KernelIdeal.Body

end
-- ==== Proof.Frame.lean ====
/-
  The idealized kernel's run: the pipeline's proof data with the requantized codes and the new scales as what each grid
  point leaves in the output buffers, the body's obligation, the run and the frame.
-/
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The proof data of the one pipeline on core `c`: the arrays as the region finds them (`V`); after the body at
    point `t` each input's buffer at its block and the outputs' at the requantized codes and the new scales of those blocks; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => QQ (iblk m c 0 t) (iblk m c 1 t)
    | ⟨3, _⟩ => SS (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = QQ (iblk m c 0 t) (iblk m c 1 t) := by dsimp only [dats]
theorem after0_3 (c : Dev nD) (t : Fin cfg0.N) : (dats m 0 c).after 3 t = SS (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply (body_run c (grid0.coords t) _ _ _ _ _ _ _ _ _ _ (iblk m c 0 t) (iblk m c 1 t) Set.univ _)
  isplitl [H0]; · iexact H0
  isplitl [H1]; · iexact H1
  isplitl [H2]; · iexists _; iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run (defs (F := Ideal)) (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, from any memory with zero counters: every weakly fair execution of @main on the
    TensorCores terminates, and every final state has every array of the pipeline at what the library computes from the
    proof data and every other unscoped buffer as the lines after the region leave it (Lib/Pipeline/Frame.lean `FramePost`). -/
theorem run_main : θ_run (defs (F := Ideal)) (onTc (τ := τ) (main (F := Ideal))) (s₀ m ρ) (Pipeline.FramePost cfgs (dats m) 0 (Pipeline.afterTail₀ cfgs (dats m) 0 (V0 m) [hostOps1])) :=
  (θ_run (defs (F := Ideal)) _ _).mono (fun _ h => h.1) (run_main_quiescent m ρ)

/-- `frame` without the counters: the argument arrays end unchanged. -/
theorem unchanged : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run (defs (F := Ideal)) _ _).mono (fun _ h => h.2) (run_main_quiescent m ρ))

end Cert.KernelIdeal.Body

end
-- ==== Proof.KernelValue.lean ====
/-
  What the idealized kernel's result arrays hold after the run: batch `t`'s blocks are what grid point `t` left, so the
  arrays are the plain functions of Spec.lean; the host's reshape of the scales keeps their order.
-/
module

public import proofs.«01_k».proof.Proof.Frame
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where the blocks lie -/

/-- Every window's block at point `t` is batch `t`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem N_eq : cfg0.N = 59 := by decide +kernel

/-- A grid point as a batch number. -/
def batch (t : Fin cfg0.N) : Fin 59 := ⟨t.val, Nat.lt_of_lt_of_eq t.isLt N_eq⟩

theorem emb0 (t : Fin cfg0.N) (r : Fin 1024) (j : Fin 1280) : ((cfg0.win 0).blk t).view.emb (ix3 0 r j) = ix3 (batch t) r j := by
  obtain ⟨e0, e1, e2⟩ := (idx_facts t).1
  funext a; apply Fin.ext
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 1280 + 1 * j.val = j.val; omega

theorem emb1 (t : Fin cfg0.N) (r : Fin 1024) (g : Fin 10) : ((cfg0.win 1).blk t).view.emb (ix3 0 r g) = ix3 (batch t) r g := by
  obtain ⟨e0, e1, e2⟩ := (idx_facts t).2.1
  funext a; apply Fin.ext
  match a with
  | ⟨0, _⟩ => show win0_1.index t (0 : Fin 3) * 1 + 1 * 0 = t.val; omega
  | ⟨1, _⟩ => show win0_1.index t (1 : Fin 3) * 1024 + 1 * r.val = r.val; omega
  | ⟨2, _⟩ => show win0_1.index t (2 : Fin 3) * 10 + 1 * g.val = g.val; omega

theorem emb2 (t : Fin cfg0.N) (y : S1x1024x1280.Idx) : ((cfg0.win 2).blk t).view.emb y = ix3 (batch t) (y 1) (y 2) := by
  obtain ⟨e0, e1, e2⟩ := (idx_facts t).2.2.1
  have h0 : (y 0 : Nat) < 1 := (y 0).isLt
  funext a; apply Fin.ext
  match a with
  | ⟨0, _⟩ => show win0_2.index t (0 : Fin 3) * 1 + 1 * (y 0).val = t.val; omega
  | ⟨1, _⟩ => show win0_2.index t (1 : Fin 3) * 1024 + 1 * (y 1).val = (y 1).val; omega
  | ⟨2, _⟩ => show win0_2.index t (2 : Fin 3) * 1280 + 1 * (y 2).val = (y 2).val; omega

theorem emb3 (t : Fin cfg0.N) (y : S1x1x1280.Idx) : ((cfg0.win 3).blk t).view.emb y = ix3 (batch t) (y 1) (y 2) := by
  obtain ⟨e0, e1, e2⟩ := (idx_facts t).2.2.2
  have h0 : (y 0 : Nat) < 1 := (y 0).isLt
  funext a; apply Fin.ext
  match a with
  | ⟨0, _⟩ => show win0_3.index t (0 : Fin 3) * 1 + 1 * (y 0).val = t.val; omega
  | ⟨1, _⟩ => show win0_3.index t (1 : Fin 3) * 1 + 1 * (y 1).val = (y 1).val; omega
  | ⟨2, _⟩ => show win0_3.index t (2 : Fin 3) * 1280 + 1 * (y 2).val = (y 2).val; omega

/-- Every index of the codes' array lies in its batch's block. -/
theorem mem2 (b : Fin 59) (r : Fin 1024) (j : Fin 1280) :
    (ix3 b r j : S59x1024x1280.Idx) ∈ ((cfg0.win 2).blk ⟨b.val, Nat.lt_of_lt_of_eq b.isLt N_eq.symm⟩).view.set := by
  have h := ((cfg0.win 2).blk ⟨b.val, Nat.lt_of_lt_of_eq b.isLt N_eq.symm⟩).view.emb_mem_set (ix3 0 r j : S1x1024x1280.Idx)
  rwa [emb2] at h

/-- Every index of the scales' array lies in its batch's block. -/
theorem mem3 (b : Fin 59) (r : Fin 1) (j : Fin 1280) :
    (ix3 b r j : S59x1x1280.Idx) ∈ ((cfg0.win 3).blk ⟨b.val, Nat.lt_of_lt_of_eq b.isLt N_eq.symm⟩).view.set := by
  have h := ((cfg0.win 3).blk ⟨b.val, Nat.lt_of_lt_of_eq b.isLt N_eq.symm⟩).view.emb_mem_set (ix3 0 r j : S1x1x1280.Idx)
  rwa [emb3] at h

/-- The codes of point `t`'s block are batch `t`'s. -/
theorem codes_blk (c : Dev nD) (t : Fin cfg0.N) :
    codesM (iblk m c 0 t) = Spec.codes (m ((c : Thread nD τ).loc main_arg0)) (batch t) := by
  funext r j
  show V m c main_arg0 (((cfg0.win 0).blk t).view.emb (ix3 0 r j)) = _
  rw [emb0]; rfl

/-- The scales of point `t`'s block are batch `t`'s. -/
theorem scales_blk (c : Dev nD) (t : Fin cfg0.N) :
    scalesM (iblk m c 1 t) = Spec.scales (m ((c : Thread nD τ).loc main_arg1)) (batch t) := by
  funext r g
  show V m c main_arg1 (((cfg0.win 1).blk t).view.emb (ix3 0 r g)) = _
  rw [emb1]; rfl

/-! ## The arrays after the run -/

/-- The new scales as the pipeline's array holds them. -/
def outS3 (a0 : Vec Ideal S59x1024x1280 .fp8e4m3) (a1 : Vec Ideal S59x1024x10 .f32) : Vec Ideal S59x1x1280 .f32 :=
  fun y => Spec.outS a0 a1 (ix2 (y 0) (y 2))

/-- The array of the codes. -/
theorem final2 (c : Dev nD) : (dats m 0 c).arrAt 2 cfg0.N
    = Spec.outQ (m ((c : Thread nD τ).loc main_arg0)) (m ((c : Thread nD τ).loc main_arg1)) :=
  (dats m 0 c).arrAt_eq_of_cover 2 _ (fun t _ => by
      show (cfg0.win 2).cut (grid0.coords t) ((dats m 0 c).after 2 t) = _
      rw [after0_2]
      funext y
      show QQ (iblk m c 0 t) (iblk m c 1 t) y = Spec.outQ _ _ (((cfg0.win 2).blk t).view.emb y)
      rw [emb2]
      unfold QQ
      rw [codes_blk, scales_blk]
      rfl)
    fun i => by
      obtain ⟨b, r, j, rfl⟩ : ∃ b r j, i = ix3 b r j := ⟨i 0, i 1, i 2, by funext a; fin_cases a <;> rfl⟩
      exact ⟨_, flush0_2 _, mem2 b r j⟩

/-- The array of the scales. -/
theorem final3 (c : Dev nD) : (dats m 0 c).arrAt 3 cfg0.N
    = outS3 (m ((c : Thread nD τ).loc main_arg0)) (m ((c : Thread nD τ).loc main_arg1)) :=
  (dats m 0 c).arrAt_eq_of_cover 3 _ (fun t _ => by
      show (cfg0.win 3).cut (grid0.coords t) ((dats m 0 c).after 3 t) = _
      rw [after0_3]
      funext y
      show SS (iblk m c 0 t) (iblk m c 1 t) y = outS3 _ _ (((cfg0.win 3).blk t).view.emb y)
      rw [emb3]
      unfold SS
      rw [codes_blk, scales_blk]
      rfl)
    fun i => by
      obtain ⟨b, r, j, rfl⟩ : ∃ b r j, i = ix3 b r j := ⟨i 0, i 1, i 2, by funext a; fin_cases a <;> rfl⟩
      exact ⟨_, flush0_3 _, mem3 b r j⟩

/-- The reshape of the scales' array drops its middle axis. -/
theorem reshape_eq (a0 : Vec Ideal S59x1024x1280 .fp8e4m3) (a1 : Vec Ideal S59x1024x10 .f32) :
    shapeCast S59x1280 (outS3 a0 a1) shapeCasts_S59x1x1280_S59x1280 = Spec.outS a0 a1 := by
  funext y
  obtain ⟨b, j, rfl⟩ : ∃ b j, y = ix2 b j := ⟨y 0, y 1, by funext a; fin_cases a <;> rfl⟩
  pointwise [outS3]
  done

/-- The second result, left by the host line after the region. -/
theorem tail_eq (c : Dev nD) : Pipeline.afterTail₀ cfgs (dats m) 0 (V0 m) [hostOps1] c main_v1
    = Spec.outS (m ((c : Thread nD τ).loc main_arg0)) (m ((c : Thread nD τ).loc main_arg1)) := by
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 3).trans (final3 m c)
  exact (congrArg (fun X => shapeCast S59x1280 X shapeCasts_S59x1x1280_S59x1280) e).trans (reshape_eq _ _)

/-- The run, read: both results at the plain functions of the arguments, the arguments unchanged. -/
theorem run : θ_run (defs (F := Ideal)) (onTc (τ := τ) (main (F := Ideal))) ⟨m, fun _ => 0, ρ⟩ fun r => ∀ c : Dev nD,
      r.2.mem ((c : Thread nD τ).loc main_v0_0) = Spec.outQ (m ((c : Thread nD τ).loc main_arg0)) (m ((c : Thread nD τ).loc main_arg1))
      ∧ r.2.mem ((c : Thread nD τ).loc main_v1) = Spec.outS (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run (defs (F := Ideal)) _ _).mono (fun _ h c =>
      ⟨((h c).1 2).trans (final2 m c),
        ((h c).2 main_v1 (Pipeline.mem_restRefs_of main_v1 rfl (by decide))).trans (tail_eq m c),
        ((h c).1 0).trans (((dats m 0 c).arrAt_in 0 rfl _).trans (A_eq m c 0)),
        ((h c).1 1).trans (((dats m 0 c).arrAt_in 1 rfl _).trans (A_eq m c 1))⟩)
    (run_main m ρ)

end Cert.KernelIdeal.Body

end
-- ==== Proof.RefValue.lean ====
/-
  The reference's results as the plain functions of Spec.lean.
-/
module

public import proofs.«01_k».proof.Proof.Gen.ReferenceIdeal.Value
public import proofs.«01_k».proof.Proof.Spec

@[expose] public section

set_option maxRecDepth 16384

noncomputable section

namespace Cert.ReferenceIdeal.Read

open Cert.ReferenceIdeal Cert.ReferenceIdeal.Gen Idealize.ShloMosaic Idealize.ShloMosaic.TcCoe

variable (a0 : Vec Ideal S59x1024x1280 .fp8e4m3) (a1 : Vec Ideal S59x1024x10 .f32)

/-- A choice is a value that both of its sides are. -/
theorem dite_eq_of {α : Type} {p : Prop} [Decidable p] {x : p → α} {y : ¬p → α} {z : α} (hx : ∀ h, x h = z) (hy : ∀ h, y h = z) :
    dite p x y = z := by
  by_cases h : p
  · rw [dif_pos h]; exact hx h
  · rw [dif_neg h]; exact hy h

/-- The dequantized array: ten groups of columns side by side, each multiplied by its column of the scales. -/
theorem x_eq (b : Fin 59) (r : Fin 1024) (j : Fin 1280) :
    k0_pay3 a1 a0 (ix3 b r j) = Spec.X (Spec.codes a0 b) (Spec.scales a1 b) r j := by
  unfold Spec.X Spec.codes Spec.scales Spec.grp
  have key : ∀ (j' : Fin 1280) (g : Fin 10), j'.val = j.val → g.val = j.val / 128 →
      (a0 (ix3 b r j') * a1 (ix3 b r g) : EReal) = a0 (ix3 b r j) * a1 (ix3 b r ⟨j.val / 128, by omega⟩) := by
    intro j' g hj hg
    rw [show j' = j from Fin.ext hj, show g = ⟨j.val / 128, by omega⟩ from Fin.ext hg]
  have hj := j.isLt
  pointwise [k0_pay3]
  iterate 9 refine dite_eq_of (fun h => key _ _ (by first | rfl | (dsimp only; omega)) (by first | omega | (simp; omega))) fun h => ?_
  exact key _ _ (by dsimp only; omega) (by first | omega | (simp; omega))

/-- Its largest absolute value by column. -/
theorem amax_eq (b : Fin 59) (j : Fin 1280) :
    k0_pay4 a1 a0 (ix2 b j) = Spec.amax fun r => Spec.X (Spec.codes a0 b) (Spec.scales a1 b) r j := by
  unfold Spec.amax
  simp only [← x_eq]
  pointwise [k0_pay4]
  rfl

/-- The new scales from the largest absolute values. -/
def scl (v : FVec Ideal S59x1280 .f32) : FVec Ideal S59x1280 .f32 :=
  select (cmpf .oeq v (broadcast S59x1280 (Scalar.ofBits .f32 0x00000000#32))) (broadcast S59x1280 (Scalar.ofBits .f32 0x3F800000#32))
    (divf v (broadcast S59x1280 (Scalar.ofBits .f32 0x42FE0000#32)))

theorem scl_apply (v : FVec Ideal S59x1280 .f32) (b : Fin 59) (j : Fin 1280) : scl v (ix2 b j) = Spec.scaleOf (v (ix2 b j)) := by
  pointwise [scl, Spec.scaleOf]

/-- The requantized codes from the dequantized array and the new scales. -/
def quant (x : FVec Ideal S59x1024x1280 .f32) (s : FVec Ideal S59x1280 .f32) : IVec S59x1024x1280 8 :=
  fptosi 8 (minimumf (broadcast S59x1024x1280 (Scalar.ofBits (F := Ideal) .f32 0x42FE0000#32))
    (maximumf (broadcast S59x1024x1280 (Scalar.ofBits .f32 0xC2FE0000#32)) (roundeven
      (divf x (broadcastTo S59x1024x1280 (shapeCast S59x1x1280 s shapeCasts_S59x1280_S59x1x1280) broadcasts_S59x1x1280_S59x1024x1280)))))

theorem quant_apply (x : FVec Ideal S59x1024x1280 .f32) (s : FVec Ideal S59x1280 .f32) (b : Fin 59) (r : Fin 1024) (j : Fin 1280) :
    quant x s (ix3 b r j) = Spec.cut (FloatOps.divf (x (ix3 b r j)) (s (ix2 b j))) := by
  pointwise [quant, Spec.cut]

/-- The loads of the whole arrays are the arrays. -/
theorem pay7_eq : k0_pay7 a0 a1 = k0_pay5 a1 a0 := by
  unfold k0_pay7
  rw [View.ld_unit_zero (S := S59x1024x10) Value.hz1 _ a1, View.ld_unit_zero (S := S59x1024x1280) Value.hz0 _ a0]

theorem pay8_eq : k0_pay8 a0 a1 = k0_pay6 a1 a0 := by
  unfold k0_pay8
  rw [View.ld_unit_zero (S := S59x1024x10) Value.hz1 _ a1, View.ld_unit_zero (S := S59x1024x1280) Value.hz0 _ a0]

/-- The reference's second result is `scl` of the largest absolute values. -/
theorem G3_eq : Value.G3 a0 a1 = scl (k0_pay4 a1 a0) := by
  unfold Value.G3
  rw [pay7_eq, pay8_eq]
  unfold k0_pay1 k0_pay5 k0_pay6 scl
  dsimp only

/-- The reference's first result is `quant` of the dequantized array and those scales. -/
theorem G2_eq : Value.G2 a0 a1 = quant (k0_pay3 a1 a0) (Value.G3 a0 a1) := by
  unfold Value.G2 Value.G3 k0_pay2 quant
  dsimp only

/-- The new scale of a column. -/
theorem scale_apply (b : Fin 59) (j : Fin 1280) : Value.G3 a0 a1 (ix2 b j) = Spec.SC (Spec.codes a0 b) (Spec.scales a1 b) j := by
  rw [G3_eq, scl_apply, amax_eq, Spec.SC]

/-- A requantized entry. -/
theorem code_apply (b : Fin 59) (r : Fin 1024) (j : Fin 1280) :
    Value.G2 a0 a1 (ix3 b r j) = Spec.Q (Spec.codes a0 b) (Spec.scales a1 b) r j := by
  rw [G2_eq, quant_apply, x_eq, scale_apply, Spec.Q]

/-- The reference's second result. -/
theorem scales_eq : Value.G3 a0 a1 = Spec.outS a0 a1 := by
  funext y
  obtain ⟨b, j, rfl⟩ : ∃ b j, y = ix2 b j := ⟨y 0, y 1, by funext a; fin_cases a <;> rfl⟩
  exact scale_apply a0 a1 b j

/-- The reference's first result. -/
theorem codes_eq : Value.G2 a0 a1 = Spec.outQ a0 a1 := by
  funext y
  obtain ⟨b, r, j, rfl⟩ : ∃ b r j, y = ix3 b r j := ⟨y 0, y 1, y 2, by funext a; fin_cases a <;> rfl⟩
  exact code_apply a0 a1 b r j

end Cert.ReferenceIdeal.Read

end
-- ==== Proof.lean ====
/-
  The proof of `Cert.Claim` (Defs.lean): the three frames, and that the idealized kernel and the idealized reference end
  with equal results, both being the plain functions of Proof/Spec.lean.
-/
module

public import proofs.«01_k».proof.Defs
public import proofs.«01_k».proof.Proof.BitsFrame
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- From memories that agree on the arguments, the idealized kernel and the idealized reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, Cert.KernelIdeal.Body.run m g, (θ_run _ _ _).mono ?_ (Cert.ReferenceIdeal.Value.run m' g')⟩
  intro r hr c
  obtain ⟨h2, h3, k0, k1⟩ := hr c
  obtain ⟨e0, e1⟩ := hargs c
  refine ⟨h2.trans ?_, h3.trans ?_, k0, k1⟩
  · rw [Cert.ReferenceIdeal.Read.codes_eq]
    exact congrArg₂ Spec.outQ e0 e1
  · rw [Cert.ReferenceIdeal.Read.scales_eq]
    exact congrArg₂ Spec.outS e0 e1

theorem claim : Cert.Claim := ⟨Cert.Kernel.Gen.facts, Cert.KernelIdeal.Gen.facts, Cert.ReferenceIdeal.Gen.facts,
  fun m g _ => Cert.Kernel.Body.frame m g,
  fun m g _ => Cert.KernelIdeal.Body.frame m g,
  fun m g _ => Cert.ReferenceIdeal.Gen.frame m g,
  trivial,
  algebraic⟩

end Cert.Proof

end
